-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_index_arrays [hPre_index_arrays : Cert.Pre_index_arrays.Facts] (m : (ℓ : Loc Cert.KernelIdeal.nD Cert.KernelIdeal.τ Cert.KernelIdeal.sig) → Buf (Elt Ideal) ℓ) : Prop :=
  ∀ c : Dev Cert.KernelIdeal.nD,
    (Cert.Pre_index_arrays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_index_arrays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_index_arrays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_index_arrays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_index_arrays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_arrays [hPre_index_arrays : Cert.Pre_index_arrays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_arrays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_index_arrays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_index_arrays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_index_arrays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_index_arrays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_index_arrays [hKernelIdeal : Cert.KernelIdeal.Facts] [hPre_index_arrays : Cert.Pre_index_arrays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_index_arrays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_index_arrays [hReferenceIdeal : Cert.ReferenceIdeal.Facts] [hPre_index_arrays : Cert.Pre_index_arrays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_arrays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_index_arrays [hKernelIdeal : Cert.KernelIdeal.Facts] [hReferenceIdeal : Cert.ReferenceIdeal.Facts] [hPre_index_arrays : Cert.Pre_index_arrays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_index_arrays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_index_arrays : Cert.Pre_index_arrays.Facts),
    quiescent_Kernel (hKernel := hKernel)
    ∧ quiescent_KernelIdeal (hKernelIdeal := hKernelIdeal)
    ∧ quiescent_KernelIdeal_pre_index_arrays (hKernelIdeal := hKernelIdeal) (hPre_index_arrays := hPre_index_arrays)
    ∧ quiescent_ReferenceIdeal (hReferenceIdeal := hReferenceIdeal)
    ∧ quiescent_ReferenceIdeal_pre_index_arrays (hReferenceIdeal := hReferenceIdeal) (hPre_index_arrays := hPre_index_arrays)
    ∧ preserves_Kernel_KernelIdeal
    ∧ algebraic_KernelIdeal_ReferenceIdeal_pre_index_arrays (hKernelIdeal := hKernelIdeal) (hReferenceIdeal := hReferenceIdeal) (hPre_index_arrays := hPre_index_arrays)
-- ==== Pre_index_arrays.lean ====
abbrev S160000x9 : Shape := ⟨2, ![160000, 9]⟩
abbrev S20000x32 : Shape := ⟨2, ![20000, 32]⟩
abbrev S32x8 : Shape := ⟨2, ![32, 8]⟩
abbrev S32 : Shape := ⟨1, ![32]⟩
abbrev S128x256 : Shape := ⟨2, ![128, 256]⟩
abbrev S32x128 : Shape := ⟨2, ![32, 128]⟩
abbrev S160000 : Shape := ⟨1, ![160000]⟩
abbrev S80000 : Shape := ⟨1, ![80000]⟩
abbrev S20000x2x4 : Shape := ⟨3, ![20000, 2, 4]⟩
abbrev S20000x4 : Shape := ⟨2, ![20000, 4]⟩
abbrev S_ : Shape := ⟨0, ![]⟩

class Facts : Prop where
  shapeCasts_S160000_S20000x2x4 : S160000.ShapeCasts S20000x2x4
  bcast_S_S20000x2x4 : S_.BroadcastsInDim S20000x2x4 (![] : Fin 0 → Fin S20000x2x4.rank)
  shapeCasts_S80000_S20000x4 : S80000.ShapeCasts S20000x4
  bcast_S_S20000x4 : S_.BroadcastsInDim S20000x4 (![] : Fin 0 → Fin S20000x4.rank)

variable [Facts]

def fn_part1 {F : FTy → Type} [FloatOps F] (main_arg10 : IVec S80000 32) (main_v3 : IVec S20000x4 32) (main_v4 : IVec S20000x4 32) (main_v12 : IVec S20000x2x4 1) (main_v14 : IVec S20000x2x4 1) (main_v19 : IVec S20000x2x4 1) (main_v20 : IVec S20000x4 32) : IVec S20000x2x4 1 × IVec S20000x2x4 1 × IVec S20000x2x4 1 × IVec S20000x4 1 × IVec S20000x4 1 :=
  let main_v21 : IVec S20000x4 1 := cmpi .eq main_v20 main_v3
  let main_v22 : IVec S20000x4 32 := shapeCast S20000x4 main_arg10 shapeCasts_S80000_S20000x4
  let main_c_2 : IVec S_ 32 := constantI S_ 32 2#32
  let main_v23 : IVec S20000x4 32 := broadcastInDim S20000x4 ![] bcast_S_S20000x4 main_c_2
  let main_v24 : IVec S20000x4 32 := muli main_v23 main_v4
  let main_v25 : IVec S20000x4 1 := cmpi .eq main_v22 main_v24
  (main_v12, main_v14, main_v19, main_v21, main_v25)

def fn {F : FTy → Type} [FloatOps F] (main_arg0 : FVec F S160000x9 .f32) (main_arg1 : FVec F S20000x32 .f32) (main_arg2 : FVec F S32x8 .f32) (main_arg3 : FVec F S32 .f32) (main_arg4 : FVec F S128x256 .f32) (main_arg5 : FVec F S32x128 .f32) (main_arg6 : IVec S160000 32) (main_arg7 : IVec S160000 32) (main_arg8 : IVec S160000 32) (main_arg9 : IVec S80000 32) (main_arg10 : IVec S80000 32) : IVec S20000x2x4 1 × IVec S20000x2x4 1 × IVec S20000x2x4 1 × IVec S20000x4 1 × IVec S20000x4 1 :=
  let main_v0 : IVec S20000x2x4 32 := iotaInDim S20000x2x4 32 0
  let main_v1 : IVec S20000x2x4 32 := iotaInDim S20000x2x4 32 1
  let main_v2 : IVec S20000x2x4 32 := iotaInDim S20000x2x4 32 2
  let main_v3 : IVec S20000x4 32 := iotaInDim S20000x4 32 0
  let main_v4 : IVec S20000x4 32 := iotaInDim S20000x4 32 1
  let main_v5 : IVec S20000x2x4 32 := shapeCast S20000x2x4 main_arg6 shapeCasts_S160000_S20000x2x4
  let main_c : IVec S_ 32 := constantI S_ 32 80000#32
  let main_v6 : IVec S20000x2x4 32 := broadcastInDim S20000x2x4 ![] bcast_S_S20000x2x4 main_c
  let main_v7 : IVec S20000x2x4 32 := muli main_v6 main_v1
  let main_c_0 : IVec S_ 32 := constantI S_ 32 4#32
  let main_v8 : IVec S20000x2x4 32 := broadcastInDim S20000x2x4 ![] bcast_S_S20000x2x4 main_c_0
  let main_v9 : IVec S20000x2x4 32 := muli main_v8 main_v0
  let main_v10 : IVec S20000x2x4 32 := addi main_v7 main_v9
  let main_v11 : IVec S20000x2x4 32 := addi main_v10 main_v2
  let main_v12 : IVec S20000x2x4 1 := cmpi .eq main_v5 main_v11
  let main_v13 : IVec S20000x2x4 32 := shapeCast S20000x2x4 main_arg7 shapeCasts_S160000_S20000x2x4
  let main_v14 : IVec S20000x2x4 1 := cmpi .eq main_v13 main_v0
  let main_v15 : IVec S20000x2x4 32 := shapeCast S20000x2x4 main_arg8 shapeCasts_S160000_S20000x2x4
  let main_c_1 : IVec S_ 32 := constantI S_ 32 4#32
  let main_v16 : IVec S20000x2x4 32 := broadcastInDim S20000x2x4 ![] bcast_S_S20000x2x4 main_c_1
  let main_v17 : IVec S20000x2x4 32 := muli main_v16 main_v0
  let main_v18 : IVec S20000x2x4 32 := addi main_v17 main_v2
  let main_v19 : IVec S20000x2x4 1 := cmpi .eq main_v15 main_v18
  let main_v20 : IVec S20000x4 32 := shapeCast S20000x4 main_arg9 shapeCasts_S80000_S20000x4
  fn_part1 (F := F) main_arg10 main_v3 main_v4 main_v12 main_v14 main_v19 main_v20
-- ==== Kernel.lean ====
abbrev S160000x9 : Shape := ⟨2, ![160000, 9]⟩
abbrev S20000x32 : Shape := ⟨2, ![20000, 32]⟩
abbrev S32x8 : Shape := ⟨2, ![32, 8]⟩
abbrev S32 : Shape := ⟨1, ![32]⟩
abbrev S128x256 : Shape := ⟨2, ![128, 256]⟩
abbrev S32x128 : Shape := ⟨2, ![32, 128]⟩
abbrev S160000 : Shape := ⟨1, ![160000]⟩
abbrev S80000 : Shape := ⟨1, ![80000]⟩
abbrev S40000x36 : Shape := ⟨2, ![40000, 36]⟩
abbrev S1x32 : Shape := ⟨2, ![1, 32]⟩
abbrev S800x36 : Shape := ⟨2, ![800, 36]⟩
abbrev S800x32 : Shape := ⟨2, ![800, 32]⟩
abbrev S800x8 : Shape := ⟨2, ![800, 8]⟩
abbrev S800x256 : Shape := ⟨2, ![800, 256]⟩
abbrev S800x128 : Shape := ⟨2, ![800, 128]⟩

abbrev nBuf : Space → Nat
  | .hbm => 14
  | .vmem => 12
  | .smem => 0
  | _ => 0

abbrev bufTy : (tb : Table) → Fin (tcTables nBuf tb) → BufTy
  | .hbm, ⟨0, _⟩ => ⟨S160000x9, .f32⟩
  | .hbm, ⟨1, _⟩ => ⟨S20000x32, .f32⟩
  | .hbm, ⟨2, _⟩ => ⟨S32x8, .f32⟩
  | .hbm, ⟨3, _⟩ => ⟨S32, .f32⟩
  | .hbm, ⟨4, _⟩ => ⟨S128x256, .f32⟩
  | .hbm, ⟨5, _⟩ => ⟨S32x128, .f32⟩
  | .hbm, ⟨6, _⟩ => ⟨S160000, .i32⟩
  | .hbm, ⟨7, _⟩ => ⟨S160000, .i32⟩
  | .hbm, ⟨8, _⟩ => ⟨S160000, .i32⟩
  | .hbm, ⟨9, _⟩ => ⟨S80000, .i32⟩
  | .hbm, ⟨10, _⟩ => ⟨S80000, .i32⟩
  | .hbm, ⟨11, _⟩ => ⟨S40000x36, .f32⟩
  | .hbm, ⟨12, _⟩ => ⟨S1x32, .f32⟩
  | .hbm, ⟨13, _⟩ => ⟨S20000x32, .f32⟩
  | .local _ .vmem, ⟨0, _⟩ => ⟨S800x36, .f32⟩
  | .local _ .vmem, ⟨1, _⟩ => ⟨S800x36, .f32⟩
  | .local _ .vmem, ⟨2, _⟩ => ⟨S800x36, .f32⟩
  | .local _ .vmem, ⟨3, _⟩ => ⟨S800x36, .f32⟩
  | .local _ .vmem, ⟨4, _⟩ => ⟨S800x32, .f32⟩
  | .local _ .vmem, ⟨5, _⟩ => ⟨S800x32, .f32⟩
  | .local _ .vmem, ⟨6, _⟩ => ⟨S32x8, .f32⟩
  | .local _ .vmem, ⟨7, _⟩ => ⟨S1x32, .f32⟩
  | .local _ .vmem, ⟨8, _⟩ => ⟨S128x256, .f32⟩
  | .local _ .vmem, ⟨9, _⟩ => ⟨S32x128, .f32⟩
  | .local _ .vmem, ⟨10, _⟩ => ⟨S800x32, .f32⟩
  | .local _ .vmem, ⟨11, _⟩ => ⟨S800x32, .f32⟩
  | _, _ => ⟨S160000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.addi c25_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x36 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x36 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S800x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S160000x9 : Shape := ⟨2, ![160000, 9]⟩
abbrev S20000x32 : Shape := ⟨2, ![20000, 32]⟩
abbrev S32x8 : Shape := ⟨2, ![32, 8]⟩
abbrev S32 : Shape := ⟨1, ![32]⟩
abbrev S128x256 : Shape := ⟨2, ![128, 256]⟩
abbrev S32x128 : Shape := ⟨2, ![32, 128]⟩
abbrev S160000 : Shape := ⟨1, ![160000]⟩
abbrev S80000 : Shape := ⟨1, ![80000]⟩
abbrev S_ : Shape := ⟨0, ![]⟩
abbrev S160000x1 : Shape := ⟨2, ![160000, 1]⟩
abbrev S160000x8 : Shape := ⟨2, ![160000, 8]⟩
abbrev S8x32 : Shape := ⟨2, ![8, 32]⟩
abbrev S160000x32 : Shape := ⟨2, ![160000, 32]⟩
abbrev S1x32 : Shape := ⟨2, ![1, 32]⟩
abbrev S80000x32 : Shape := ⟨2, ![80000, 32]⟩
abbrev S80000x1 : Shape := ⟨2, ![80000, 1]⟩
abbrev S20000x8x32 : Shape := ⟨3, ![20000, 8, 32]⟩
abbrev S80000x2 : Shape := ⟨2, ![80000, 2]⟩
abbrev S20000x256 : Shape := ⟨2, ![20000, 256]⟩
abbrev S256x128 : Shape := ⟨2, ![256, 128]⟩
abbrev S20000x128 : Shape := ⟨2, ![20000, 128]⟩
abbrev S128x32 : Shape := ⟨2, ![128, 32]⟩

abbrev nBuf : Space → Nat
  | .hbm => 86
  | .vmem => 0
  | .smem => 0
  | _ => 0

abbrev bufTy : (tb : Table) → Fin (tcTables nBuf tb) → BufTy
  | .hbm, ⟨0, _⟩ => ⟨S160000x9, .f32⟩
  | .hbm, ⟨1, _⟩ => ⟨S20000x32, .f32⟩
  | .hbm, ⟨2, _⟩ => ⟨S32x8, .f32⟩
  | .hbm, ⟨3, _⟩ => ⟨S32, .f32⟩
  | .hbm, ⟨4, _⟩ => ⟨S128x256, .f32⟩
  | .hbm, ⟨5, _⟩ => ⟨S32x128, .f32⟩
  | .hbm, ⟨6, _⟩ => ⟨S160000, .i32⟩
  | .hbm, ⟨7, _⟩ => ⟨S160000, .i32⟩
  | .hbm, ⟨8, _⟩ => ⟨S160000, .i32⟩
  | .hbm, ⟨9, _⟩ => ⟨S80000, .i32⟩
  | .hbm, ⟨10, _⟩ => ⟨S80000, .i32⟩
  | .hbm, ⟨11, _⟩ => ⟨S_, .i32⟩
  | .hbm, ⟨12, _⟩ => ⟨S160000, .i32⟩
  | .hbm, ⟨13, _⟩ => ⟨S160000, .i1⟩
  | .hbm, ⟨14, _⟩ => ⟨S_, .i32⟩
  | .hbm, ⟨15, _⟩ => ⟨S160000, .i32⟩
  | .hbm, ⟨16, _⟩ => ⟨S160000, .i32⟩
  | .hbm, ⟨17, _⟩ => ⟨S160000, .i32⟩
  | .hbm, ⟨18, _⟩ => ⟨S160000x1, .i32⟩
  | .hbm, ⟨19, _⟩ => ⟨S160000x9, .f32⟩
  | .hbm, ⟨20, _⟩ => ⟨S160000x8, .f32⟩
  | .hbm, ⟨21, _⟩ => ⟨S8x32, .f32⟩
  | .hbm, ⟨22, _⟩ => ⟨S160000x32, .f32⟩
  | .hbm, ⟨23, _⟩ => ⟨S1x32, .f32⟩
  | .hbm, ⟨24, _⟩ => ⟨S160000x32, .f32⟩
  | .hbm, ⟨25, _⟩ => ⟨S160000x32, .f32⟩
  | .hbm, ⟨26, _⟩ => ⟨S_, .f32⟩
  | .hbm, ⟨27, _⟩ => ⟨S160000x32, .f32⟩
  | .hbm, ⟨28, _⟩ => ⟨S160000x32, .f32⟩
  | .hbm, ⟨29, _⟩ => ⟨S_, .i32⟩
  | .hbm, ⟨30, _⟩ => ⟨S160000, .i32⟩
  | .hbm, ⟨31, _⟩ => ⟨S160000, .i1⟩
  | .hbm, ⟨32, _⟩ => ⟨S_, .i32⟩
  | .hbm, ⟨33, _⟩ => ⟨S160000, .i32⟩
  | .hbm, ⟨34, _⟩ => ⟨S160000, .i32⟩
  | .hbm, ⟨35, _⟩ => ⟨S160000, .i32⟩
  | .hbm, ⟨36, _⟩ => ⟨S160000x1, .i32⟩
  | .hbm, ⟨37, _⟩ => ⟨S160000x32, .f32⟩
  | .hbm, ⟨38, _⟩ => ⟨S160000x32, .f32⟩
  | .hbm, ⟨39, _⟩ => ⟨S_, .f32⟩
  | .hbm, ⟨40, _⟩ => ⟨S160000, .f32⟩
  | .hbm, ⟨41, _⟩ => ⟨S_, .f32⟩
  | .hbm, ⟨42, _⟩ => ⟨S80000, .f32⟩
  | .hbm, ⟨43, _⟩ => ⟨S160000x1, .i32⟩
  | .hbm, ⟨44, _⟩ => ⟨S80000, .f32⟩
  | .hbm, ⟨45, _⟩ => ⟨S_, .f32⟩
  | .hbm, ⟨46, _⟩ => ⟨S80000x32, .f32⟩
  | .hbm, ⟨47, _⟩ => ⟨S160000x1, .i32⟩
  | .hbm, ⟨48, _⟩ => ⟨S80000x32, .f32⟩
  | .hbm, ⟨49, _⟩ => ⟨S_, .f32⟩
  | .hbm, ⟨50, _⟩ => ⟨S80000, .f32⟩
  | .hbm, ⟨51, _⟩ => ⟨S80000, .f32⟩
  | .hbm, ⟨52, _⟩ => ⟨S80000x1, .f32⟩
  | .hbm, ⟨53, _⟩ => ⟨S80000x32, .f32⟩
  | .hbm, ⟨54, _⟩ => ⟨S80000x32, .f32⟩
  | .hbm, ⟨55, _⟩ => ⟨S_, .f32⟩
  | .hbm, ⟨56, _⟩ => ⟨S20000x8x32, .f32⟩
  | .hbm, ⟨57, _⟩ => ⟨S_, .i32⟩
  | .hbm, ⟨58, _⟩ => ⟨S80000, .i32⟩
  | .hbm, ⟨59, _⟩ => ⟨S80000, .i1⟩
  | .hbm, ⟨60, _⟩ => ⟨S_, .i32⟩
  | .hbm, ⟨61, _⟩ => ⟨S80000, .i32⟩
  | .hbm, ⟨62, _⟩ => ⟨S80000, .i32⟩
  | .hbm, ⟨63, _⟩ => ⟨S80000, .i32⟩
  | .hbm, ⟨64, _⟩ => ⟨S_, .i32⟩
  | .hbm, ⟨65, _⟩ => ⟨S80000, .i32⟩
  | .hbm, ⟨66, _⟩ => ⟨S80000, .i1⟩
  | .hbm, ⟨67, _⟩ => ⟨S_, .i32⟩
  | .hbm, ⟨68, _⟩ => ⟨S80000, .i32⟩
  | .hbm, ⟨69, _⟩ => ⟨S80000, .i32⟩
  | .hbm, ⟨70, _⟩ => ⟨S80000, .i32⟩
  | .hbm, ⟨71, _⟩ => ⟨S80000x1, .i32⟩
  | .hbm, ⟨72, _⟩ => ⟨S80000x1, .i32⟩
  | .hbm, ⟨73, _⟩ => ⟨S80000x2, .i32⟩
  | .hbm, ⟨74, _⟩ => ⟨S20000x8x32, .f32⟩
  | .hbm, ⟨75, _⟩ => ⟨S20000x256, .f32⟩
  | .hbm, ⟨76, _⟩ => ⟨S256x128, .f32⟩
  | .hbm, ⟨77, _⟩ => ⟨S20000x128, .f32⟩
  | .hbm, ⟨78, _⟩ => ⟨S_, .f32⟩
  | .hbm, ⟨79, _⟩ => ⟨S20000x128, .f32⟩
  | .hbm, ⟨80, _⟩ => ⟨S20000x128, .f32⟩
  | .hbm, ⟨81, _⟩ => ⟨S128x32, .f32⟩
  | .hbm, ⟨82, _⟩ => ⟨S20000x32, .f32⟩
  | .hbm, ⟨83, _⟩ => ⟨S_, .f32⟩
  | .hbm, ⟨84, _⟩ => ⟨S20000x32, .f32⟩
  | .hbm, ⟨85, _⟩ => ⟨S20000x32, .f32⟩
  | _, _ => ⟨S160000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_10 : Ref sig .tc := ⟨.hbm, 64, rfl⟩
abbrev main_v41 : Ref sig .tc := ⟨.hbm, 65, rfl⟩
abbrev main_v42 : Ref sig .tc := ⟨.hbm, 66, rfl⟩
abbrev main_c_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]
-- ==== Proof.Pre.lean ====
/-
  What the precondition `index_arrays` says, in plain arithmetic (`IndexArrays`): which point each sorted place holds,
  which pillar and which voxel it belongs to, and in which pillar row and height bin each voxel lies. `indexArrays_of_pre`
  reads it off the printed predicate, one element of each of its five masks at a time.
-/
module

public import proofs.«01_k».proof.Proof.Gen.Pre_index_arrays
public import Idealize.ShloMosaic.Lib.Pointwise
public import Idealize.ShloMosaic.Lib.StableHlo.Predicate

@[expose] public section

noncomputable section

namespace Cert.Voxel

open Idealize.ShloMosaic

/-- The five index arrays are those of the fixed layout: place `n = 8 p + 4 s + z` of the sorted order holds point
    `80000 s + 4 p + z`, lies in pillar `p` and in voxel `4 p + z`; voxel `v = 4 p + z` lies in row `p`, bin `2 z`. -/
structure IndexArrays (sortIdx pillarInv voxelInv : (⟨1, ![160000]⟩ : Shape).Idx → BitVec 32)
    (binRow binZ : (⟨1, ![80000]⟩ : Shape).Idx → BitVec 32) : Prop where
  sort : ∀ n : Fin 160000, sortIdx (ix1 n) = BitVec.ofNat 32 (80000 * (n.val / 4 % 2) + 4 * (n.val / 8) + n.val % 4)
  pillar : ∀ n : Fin 160000, pillarInv (ix1 n) = BitVec.ofNat 32 (n.val / 8)
  vox : ∀ n : Fin 160000, voxelInv (ix1 n) = BitVec.ofNat 32 (4 * (n.val / 8) + n.val % 4)
  row : ∀ v : Fin 80000, binRow (ix1 v) = BitVec.ofNat 32 (v.val / 4)
  bin : ∀ v : Fin 80000, binZ (ix1 v) = BitVec.ofNat 32 (2 * (v.val % 4))

open Cert.Pre_index_arrays in
/-- The printed predicate, all ones, is `IndexArrays` of its last five arguments. -/
theorem indexArrays_of_pre (a0 : FVec Ideal S160000x9 .f32) (a1 : FVec Ideal S20000x32 .f32) (a2 : FVec Ideal S32x8 .f32)
    (a3 : FVec Ideal S32 .f32) (a4 : FVec Ideal S128x256 .f32) (a5 : FVec Ideal S32x128 .f32)
    (a6 a7 a8 : IVec S160000 32) (a9 a10 : IVec S80000 32)
    (h1 : (fn a0 a1 a2 a3 a4 a5 a6 a7 a8 a9 a10).1 = fun _ => 1#1)
    (h2 : (fn a0 a1 a2 a3 a4 a5 a6 a7 a8 a9 a10).2.1 = fun _ => 1#1)
    (h3 : (fn a0 a1 a2 a3 a4 a5 a6 a7 a8 a9 a10).2.2.1 = fun _ => 1#1)
    (h4 : (fn a0 a1 a2 a3 a4 a5 a6 a7 a8 a9 a10).2.2.2.1 = fun _ => 1#1)
    (h5 : (fn a0 a1 a2 a3 a4 a5 a6 a7 a8 a9 a10).2.2.2.2 = fun _ => 1#1) : IndexArrays a6 a7 a8 a9 a10 := by
  constructor
  · intro n
    have e := congrFun h1 (ix3 ⟨n.val / 8, by omega⟩ ⟨n.val / 4 % 2, by omega⟩ ⟨n.val % 4, by omega⟩)
    pointwise [fn, fn_part1, StableHlo.Predicate.cmpi_eq_iff] at e
    rw [e]; simp only [IntOp.addi, IntOp.muli, BitVec.ofNat_add, BitVec.ofNat_mul]
  · intro n
    have e := congrFun h2 (ix3 ⟨n.val / 8, by omega⟩ ⟨n.val / 4 % 2, by omega⟩ ⟨n.val % 4, by omega⟩)
    pointwise [fn, fn_part1, StableHlo.Predicate.cmpi_eq_iff] at e
    exact e
  · intro n
    have e := congrFun h3 (ix3 ⟨n.val / 8, by omega⟩ ⟨n.val / 4 % 2, by omega⟩ ⟨n.val % 4, by omega⟩)
    pointwise [fn, fn_part1, StableHlo.Predicate.cmpi_eq_iff] at e
    rw [e]; simp only [IntOp.addi, IntOp.muli, BitVec.ofNat_add, BitVec.ofNat_mul]
  · intro v
    have e := congrFun h4 (ix2 ⟨v.val / 4, by omega⟩ ⟨v.val % 4, by omega⟩)
    pointwise [fn, fn_part1, StableHlo.Predicate.cmpi_eq_iff] at e
    exact e
  · intro v
    have e := congrFun h5 (ix2 ⟨v.val / 4, by omega⟩ ⟨v.val % 4, by omega⟩)
    pointwise [fn, fn_part1, StableHlo.Predicate.cmpi_eq_iff] at e
    rw [e]; simp only [IntOp.muli, BitVec.ofNat_mul]

end Cert.Voxel

end
-- ==== Proof.Spec.lean ====
/-
  The mathematics of the voxel encoder, over the extended reals and free of any program.

  There are 20000 pillars of 4 voxels each; voxel `v` belongs to pillar `v / 4` and holds two points, number `v` and
  number `80000 + v`. A point's features (columns 1 to 8 of its row) go through a linear layer and a positive part
  (`hidden`); a voxel is the mean of its two points' hidden features plus its pillar's sparse features (`voxel`). The
  voxels of a pillar fill the even ones of its 8 height bins of 32 channels (`bins`), which two more linear layers with
  positive parts take to 32 outputs (`head`, `out`).

  `mean_two` is the one law of arithmetic the certificate needs: the mean of two sums that share a term is the mean of
  the other terms plus the shared one, infinities included.
-/
module

public import Idealize.ShloMosaic.Lib.IdealHost

@[expose] public section

noncomputable section

namespace Cert.Voxel

open Idealize.ShloMosaic
open scoped BigOperators

/-- Hidden feature `ch` of point `n`: the positive part of the linear layer `W0`, `b0` on columns 1 to 8 of row `n`. -/
def hidden (pts : Fin 160000 → Fin 9 → EReal) (W0 : Fin 32 → Fin 8 → EReal) (b0 : Fin 32 → EReal) (n : Fin 160000) (ch : Fin 32) : EReal :=
  max ((∑ k : Fin 8, pts n ⟨1 + k.val, by omega⟩ * W0 ch k) + b0 ch) 0

/-- Feature `ch` of voxel `v`: half the sum of its two points' hidden features, plus its pillar's sparse feature. -/
def voxel (pts : Fin 160000 → Fin 9 → EReal) (sf : Fin 20000 → Fin 32 → EReal) (W0 : Fin 32 → Fin 8 → EReal) (b0 : Fin 32 → EReal)
    (v : Fin 80000) (ch : Fin 32) : EReal :=
  ((1 / 2 : ℝ) : EReal) * (hidden pts W0 b0 ⟨v.val, by omega⟩ ch + hidden pts W0 b0 ⟨80000 + v.val, by omega⟩ ch)
    + sf ⟨v.val / 4, by omega⟩ ch

/-- Entry `k` of pillar `p`'s row of 8 height bins of 32 channels: bin `2 z` holds voxel `4 p + z`, the odd bins are zero. -/
def bins (pts : Fin 160000 → Fin 9 → EReal) (sf : Fin 20000 → Fin 32 → EReal) (W0 : Fin 32 → Fin 8 → EReal) (b0 : Fin 32 → EReal)
    (p : Fin 20000) (k : Fin 256) : EReal :=
  if k.val / 32 % 2 = 0 then voxel pts sf W0 b0 ⟨4 * p.val + k.val / 64, by omega⟩ ⟨k.val % 32, by omega⟩ else 0

/-- The two last layers on one row of bins: output `o` from the row `row`. -/
def head (W1 : Fin 128 → Fin 256 → EReal) (W2 : Fin 32 → Fin 128 → EReal) (row : Fin 256 → EReal) (o : Fin 32) : EReal :=
  max (∑ j : Fin 128, max (∑ k : Fin 256, row k * W1 j k) 0 * W2 o j) 0

/-- Output `o` of pillar `p`. -/
def out (pts : Fin 160000 → Fin 9 → EReal) (sf : Fin 20000 → Fin 32 → EReal) (W0 : Fin 32 → Fin 8 → EReal) (b0 : Fin 32 → EReal)
    (W1 : Fin 128 → Fin 256 → EReal) (W2 : Fin 32 → Fin 128 → EReal) (p : Fin 20000) (o : Fin 32) : EReal :=
  head W1 W2 (bins pts sf W0 b0 p) o

/-- The f32 pattern `0x3F000000` is the real one half. -/
theorem ofBits_half_f32 : Ideal.ofBits .f32 0x3F000000#32 = ((1 / 2 : ℝ) : EReal) := by
  simp [Ideal.ofBits, Ideal.ieee, -EReal.coe_mul]; norm_num

/-- One plus one is the real two. -/
theorem one_add_one_eq : (1 : EReal) + 1 = ((2 : ℝ) : EReal) := by
  rw [show (1 : EReal) = ((1 : ℝ) : EReal) by norm_cast, ← EReal.coe_add]; norm_num

/-- Division by two is multiplication by one half. -/
theorem div_two (x : EReal) : Ideal.div x ((2 : ℝ) : EReal) = ((1 / 2 : ℝ) : EReal) * x := by
  unfold Ideal.div
  rw [if_neg (by exact_mod_cast (two_ne_zero : (2 : ℝ) ≠ 0)), ← EReal.coe_inv, mul_comm, one_div]

/-- Half of a number twice over is the number, at the infinities too. -/
theorem half_twice (s : EReal) : ((1 / 2 : ℝ) : EReal) * (s + s) = s := by
  induction s with
  | bot => rw [EReal.bot_add]; exact EReal.coe_mul_bot_of_pos (by norm_num)
  | top => rw [EReal.top_add_top]; exact EReal.coe_mul_top_of_pos (by norm_num)
  | coe r => rw [← EReal.coe_add, ← EReal.coe_mul]; congr 1; ring

/-- The mean of two sums that share the term `s` is half the sum of the other two terms, plus `s`. -/
theorem mean_two (s a b : EReal) :
    Ideal.div ((s + a) + (s + b)) ((2 : ℝ) : EReal) = ((1 / 2 : ℝ) : EReal) * (a + b) + s := by
  have h0 : (0 : EReal) ≤ ((1 / 2 : ℝ) : EReal) := by exact_mod_cast (by norm_num : (0 : ℝ) ≤ 1 / 2)
  rw [div_two, show (s + a) + (s + b) = (a + b) + (s + s) by ac_rfl,
    EReal.left_distrib_of_nonneg_of_ne_top h0 (EReal.coe_ne_top _), half_twice]

end Cert.Voxel

end
-- ==== Proof.KernelBlock.lean ====
/-
  What one grid point of the kernel computes, from the seven blocks it reads: `x0` and `x1` are 800 pillars' points of the
  two halves (four points of 9 columns side by side in a row of 36), `x2` the pillars' sparse features, `x3` and `x4` the
  first layer's weights and bias, `x5` and `x6` the two last layers' weights. `block_apply` reads the stored block at an
  index: the two last layers (`head`) on the pillar's row of height bins (`rowB`).
-/
module

public import proofs.«01_k».proof.Proof.Spec
public import proofs.«01_k».proof.Proof.Gen.KernelIdeal.Value
public import Idealize.ShloMosaic.Lib.Pointwise

@[expose] public section

noncomputable section

namespace Cert.Voxel

open Idealize.ShloMosaic Cert.KernelIdeal Cert.KernelIdeal.Gen

/-- Hidden feature `ch` of the point that lane group `q` of row `r` holds. -/
def hiddenB (x : Vec Ideal S800x36 .f32) (x3 : Vec Ideal S32x8 .f32) (x4 : Vec Ideal S1x32 .f32) (r : Fin 800) (q : Fin 4) (ch : Fin 32) : EReal :=
  max ((∑ k : Fin 8, x (ix2 r ⟨9 * q.val + 1 + k.val, by omega⟩) * x3 (ix2 ch k)) + x4 (ix2 0 ch)) 0

/-- Feature `ch` of voxel `q` of the block's pillar `r`. -/
def voxelB (x0 x1 : Vec Ideal S800x36 .f32) (x2 : Vec Ideal S800x32 .f32) (x3 : Vec Ideal S32x8 .f32) (x4 : Vec Ideal S1x32 .f32)
    (r : Fin 800) (q : Fin 4) (ch : Fin 32) : EReal :=
  ((1 / 2 : ℝ) : EReal) * (hiddenB x0 x3 x4 r q ch + hiddenB x1 x3 x4 r q ch) + x2 (ix2 r ch)

/-- Entry `k` of the row of height bins of the block's pillar `r`. -/
def rowB (x0 x1 : Vec Ideal S800x36 .f32) (x2 : Vec Ideal S800x32 .f32) (x3 : Vec Ideal S32x8 .f32) (x4 : Vec Ideal S1x32 .f32)
    (r : Fin 800) (k : Fin 256) : EReal :=
  if k.val / 32 % 2 = 0 then voxelB x0 x1 x2 x3 x4 r ⟨k.val / 64, by omega⟩ ⟨k.val % 32, by omega⟩ else 0

section
variable (x0 x1 : Vec Ideal S800x36 .f32) (x2 : Vec Ideal S800x32 .f32) (x3 : Vec Ideal S32x8 .f32) (x4 : Vec Ideal S1x32 .f32)
  (x5 : Vec Ideal S128x256 .f32) (x6 : Vec Ideal S32x128 .f32)

/-- The body's first voxel. -/
theorem voxel0 (r : Fin 800) (ch : Fin 32) :
    k0_pay4 (View.ld x4 r0_0) (View.ld x0 r0_1) (View.ld x1 r0_1) (View.ld x3 r0_2) (View.ld x3 r0_2) (View.ld x2 r0_3) (ix2 r ch)
      = voxelB x0 x1 x2 x3 x4 r 0 ch := by
  unfold_payloads
  pointwise [voxelB, hiddenB, ofBits_half_f32]

/-- The body's second voxel. -/
theorem voxel1 (r : Fin 800) (ch : Fin 32) :
    k0_pay8 (k0_pay11 x0 x1 x2 x3 x4 x5 x6) (k0_pay5 (View.ld x1 r0_4)) (k0_pay6 (View.ld x4 r0_0) (View.ld x0 r0_4) (View.ld x3 r0_2))
        (k0_pay7 (F := Ideal)) (View.ld x3 r0_2) (View.ld x2 r0_3) (ix2 r ch)
      = voxelB x0 x1 x2 x3 x4 r 1 ch := by
  unfold_payloads
  pointwise [voxelB, hiddenB, ofBits_half_f32]

/-- The body's third voxel. -/
theorem voxel2 (r : Fin 800) (ch : Fin 32) :
    k0_pay9 (k0_pay11 x0 x1 x2 x3 x4 x5 x6) (View.ld x0 r0_5) (View.ld x1 r0_5) (View.ld x3 r0_2) (View.ld x3 r0_2) (View.ld x2 r0_3) (ix2 r ch)
      = voxelB x0 x1 x2 x3 x4 r 2 ch := by
  unfold_payloads
  pointwise [voxelB, hiddenB, ofBits_half_f32]

/-- The stored block at an index: the two last layers on the pillar's row of height bins. -/
theorem block_apply (r : Fin 800) (o : Fin 32) :
    out0_7 x0 x1 x2 x3 x4 x5 x6 (ix2 r o)
      = head (fun j k => x5 (ix2 j k)) (fun c j => x6 (ix2 c j)) (rowB x0 x1 x2 x3 x4 r) o := by
  have h0 := voxel0 x0 x1 x2 x3 x4 r
  have h1 := voxel1 x0 x1 x2 x3 x4 x5 x6 r
  have h2 := voxel2 x0 x1 x2 x3 x4 x5 x6 r
  unfold out0_7
  generalize k0_pay4 (View.ld x4 r0_0) (View.ld x0 r0_1) (View.ld x1 r0_1) (View.ld x3 r0_2) (View.ld x3 r0_2) (View.ld x2 r0_3) = p4 at *
  generalize k0_pay8 (k0_pay11 x0 x1 x2 x3 x4 x5 x6) (k0_pay5 (View.ld x1 r0_4)) (k0_pay6 (View.ld x4 r0_0) (View.ld x0 r0_4) (View.ld x3 r0_2))
        (k0_pay7 (F := Ideal)) (View.ld x3 r0_2) (View.ld x2 r0_3) = p8 at *
  generalize k0_pay9 (k0_pay11 x0 x1 x2 x3 x4 x5 x6) (View.ld x0 r0_5) (View.ld x1 r0_5) (View.ld x3 r0_2) (View.ld x3 r0_2) (View.ld x2 r0_3) = p9 at *
  rw [View.canon_unit_zero (by decide)]
  unfold_payloads
  pointwise [h0, h1, h2, head]
  refine congrArg (max · 0) (Finset.sum_congr rfl fun j _ => congrArg (max · 0 * _) (Finset.sum_congr rfl fun k _ => congrArg (· * _) ?_))
  -- a lane of an even bin is a voxel's feature, a lane of an odd bin is zero
  have even (q : Fin 4) (c : Fin 32) (hk : k.val = 64 * q.val + c.val) : voxelB x0 x1 x2 x3 x4 r q c = rowB x0 x1 x2 x3 x4 r k := by
    unfold rowB
    rw [if_pos (by omega)]
    congr 1 <;> exact Fin.ext (by show _ = _; dsimp only; omega)
  have odd (hk : k.val / 32 % 2 = 1) : (0 : EReal) = rowB x0 x1 x2 x3 x4 r k := (if_neg (by omega)).symm
  have fourth (c : Fin 32) : Ideal.ofBits .f32 0x3F000000#32 * (hiddenB x0 x3 x4 r 3 c + hiddenB x1 x3 x4 r 3 c) + x2 (ix2 r c)
      = voxelB x0 x1 x2 x3 x4 r 3 c := by rw [ofBits_half_f32]; rfl
  split
  · exact even 0 _ (by show k.val = 64 * 0 + k.val; omega)
  split
  · exact odd (by omega)
  split
  · exact even 1 _ (by show k.val = 64 * 1 + (k.val - 32 - 32); omega)
  split
  · exact odd (by omega)
  split
  · exact even 2 _ (by show k.val = 64 * 2 + (k.val - 32 - 32 - 32 - 32); omega)
  split
  · exact odd (by omega)
  split
  · exact (fourth _).trans (even 3 _ (by show k.val = 64 * 3 + (k.val - 32 - 32 - 32 - 32 - 32 - 32); omega))
  exact odd (by omega)
end

end Cert.Voxel

end
-- ==== Proof.KernelValue.lean ====
/-
  What the kernel's result array holds. Grid point `t` reads the pillars `800 t` to `800 t + 799`: their points of the
  first half are rows `800 t + r` of the point array laid out four points to a row, those of the second half rows
  `20000 + 800 t + r`, and their sparse features rows `800 t + r`. So the block it stores is rows `800 t + r` of one
  array, `result`, and the 25 blocks fill that array.
-/
module

public import proofs.«01_k».proof.Proof.KernelBlock
public import Idealize.ShloMosaic.Lib.StableHlo.Run

@[expose] public section

noncomputable section

namespace Cert.Voxel

open Idealize.ShloMosaic Idealize.ShloMosaic.TcCoe Idealize.SL.Sem Cert.KernelIdeal Cert.KernelIdeal.Gen
open Idealize.ShloMosaic.Pipeline (Dat Window)

/-- The encoder's result as a function of the six arrays of floats it is computed from. -/
def result (pts : FVec Ideal S160000x9 .f32) (sf : FVec Ideal S20000x32 .f32) (W0 : FVec Ideal S32x8 .f32) (b0 : FVec Ideal S32 .f32)
    (W1 : FVec Ideal S128x256 .f32) (W2 : FVec Ideal S32x128 .f32) : FVec Ideal S20000x32 .f32 := fun i =>
  out (fun n k => pts (ix2 n k)) (fun p ch => sf (ix2 p ch)) (fun ch k => W0 (ix2 ch k)) (fun ch => b0 (ix1 ch))
    (fun j k => W1 (ix2 j k)) (fun o j => W2 (ix2 o j)) (i 0) (i 1)

variable (m : (ℓ : Loc nD τ sig) → Buf (Elt Ideal) ℓ) (ρ : Dev nD → PrngReg) (c : Dev nD)

/-! ## The two arrays laid out anew before the kernel starts -/

/-- The points, four to a row: column `9 q + k` of row `R` is column `k` of point `4 R + q`. -/
theorem points_apply (R : Fin 40000) (q : Fin 4) (k : Fin 9) :
    V m c main_v0 (ix2 R (⟨9 * q.val + k.val, by omega⟩ : Fin 36))
      = m ((c : Thread nD τ).loc main_arg0) (ix2 (⟨4 * R.val + q.val, by omega⟩ : Fin 160000) k) := by
  have e : V m c main_v0 = shapeCast S40000x36 (m ((c : Thread nD τ).loc main_arg0)) shapeCasts_S160000x9_S40000x36 := by
    show StableHlo.after hostOps0 _ (Proc.devRef .tc main_v0) = _
    after_results
    rfl
  rw [e]
  refine shapeCast_apply _ _ _ _ ?_
  show (S160000x9.rowMajor (ix2 _ k)).val = (S40000x36.rowMajor _).val
  rw [Shape.rowMajor_val_two, Shape.rowMajor_val_two]
  show (4 * R.val + q.val) * 9 + k.val = R.val * 36 + (9 * q.val + k.val)
  omega

/-- The first layer's bias, as a row. -/
theorem bias_apply (ch : Fin 32) : V m c main_v1 (ix2 (0 : Fin 1) ch) = m ((c : Thread nD τ).loc main_arg3) (ix1 ch) := by
  have e : V m c main_v1 = shapeCast S1x32 (m ((c : Thread nD τ).loc main_arg3)) shapeCasts_S32_S1x32 := by
    show StableHlo.after hostOps0 _ (Proc.devRef .tc main_v1) = _
    after_results
    rfl
  rw [e]
  refine shapeCast_apply _ _ _ _ ?_
  show (S32.rowMajor (ix1 ch)).val = (S1x32.rowMajor _).val
  rw [Shape.rowMajor_val_one, Shape.rowMajor_val_two]
  show ch.val = 0 * 32 + ch.val
  omega

/-! ## Where the blocks lie -/

/-- Where each window's block begins at grid point `t`. -/
theorem starts : ∀ t : Fin grid0.N,
    (win0_0.index t 0 * win0_0.size 0 = 800 * t.val ∧ win0_0.index t 1 * win0_0.size 1 = 0)
    ∧ (win0_1.index t 0 * win0_1.size 0 = 20000 + 800 * t.val ∧ win0_1.index t 1 * win0_1.size 1 = 0)
    ∧ (win0_2.index t 0 * win0_2.size 0 = 800 * t.val ∧ win0_2.index t 1 * win0_2.size 1 = 0)
    ∧ (win0_3.index t 0 * win0_3.size 0 = 0 ∧ win0_3.index t 1 * win0_3.size 1 = 0)
    ∧ (win0_4.index t 0 * win0_4.size 0 = 0 ∧ win0_4.index t 1 * win0_4.size 1 = 0)
    ∧ (win0_5.index t 0 * win0_5.size 0 = 0 ∧ win0_5.index t 1 * win0_5.size 1 = 0)
    ∧ (win0_6.index t 0 * win0_6.size 0 = 0 ∧ win0_6.index t 1 * win0_6.size 1 = 0)
    ∧ (win0_7.index t 0 * win0_7.size 0 = 800 * t.val ∧ win0_7.index t 1 * win0_7.size 1 = 0)
    ∧ win0_7.xsize (grid0.coords t) 0 = 800 ∧ win0_7.xsize (grid0.coords t) 1 = 32 := by
  decide +kernel

variable (t : Fin cfg0.N)

/-- The grid has 25 points. -/
theorem point_lt : t.val < 25 := lt_of_lt_of_eq t.isLt N_0

/-- Row `r` of the first block is the points of pillar `800 t + r` in the first half; -/
theorem read0 (r : Fin 800) (k : Fin 36) :
    iblk m c 0 t (ix2 r k) = V m c main_v0 (ix2 (⟨800 * t.val + r.val, by have := point_lt t; omega⟩ : Fin 40000) k) := by
  show V m c main_v0 ((win0_0.rect t).emb (ix2 r k)) = _
  refine congrArg _ (funext fun a => Fin.ext ((win0_0.rect_emb_val t (ix2 r k) a).trans ?_))
  match a with
  | ⟨0, _⟩ => exact congrArg (· + r.val) (starts t).1.1
  | ⟨1, _⟩ => exact (congrArg (· + k.val) (starts t).1.2).trans (Nat.zero_add _)

/-- of the second block, in the second half; -/
theorem read1 (r : Fin 800) (k : Fin 36) :
    iblk m c 1 t (ix2 r k) = V m c main_v0 (ix2 (⟨20000 + 800 * t.val + r.val, by have := point_lt t; omega⟩ : Fin 40000) k) := by
  show V m c main_v0 ((win0_1.rect t).emb (ix2 r k)) = _
  refine congrArg _ (funext fun a => Fin.ext ((win0_1.rect_emb_val t (ix2 r k) a).trans ?_))
  match a with
  | ⟨0, _⟩ => exact congrArg (· + r.val) (starts t).2.1.1
  | ⟨1, _⟩ => exact (congrArg (· + k.val) (starts t).2.1.2).trans (Nat.zero_add _)

/-- and of the third block, that pillar's sparse features. -/
theorem read2 (r : Fin 800) (k : Fin 32) :
    iblk m c 2 t (ix2 r k) = m ((c : Thread nD τ).loc main_arg1) (ix2 (⟨800 * t.val + r.val, by have := point_lt t; omega⟩ : Fin 20000) k) := by
  rw [← V_main_arg1 m c]
  show V m c main_arg1 ((win0_2.rect t).emb (ix2 r k)) = _
  refine congrArg _ (funext fun a => Fin.ext ((win0_2.rect_emb_val t (ix2 r k) a).trans ?_))
  match a with
  | ⟨0, _⟩ => exact congrArg (· + r.val) (starts t).2.2.1.1
  | ⟨1, _⟩ => exact (congrArg (· + k.val) (starts t).2.2.1.2).trans (Nat.zero_add _)

/-- The other four windows hold their whole arrays: the first layer's weights, -/
theorem read3 : iblk m c 3 t = m ((c : Thread nD τ).loc main_arg2) := by
  rw [← V_main_arg2 m c]
  funext y
  show V m c main_arg2 ((win0_3.rect t).emb y) = _
  refine congrArg _ (funext fun a => Fin.ext ((win0_3.rect_emb_val t y a).trans ?_))
  match a with
  | ⟨0, _⟩ => exact (congrArg (· + (y 0).val) (starts t).2.2.2.1.1).trans (Nat.zero_add _)
  | ⟨1, _⟩ => exact (congrArg (· + (y 1).val) (starts t).2.2.2.1.2).trans (Nat.zero_add _)

/-- its bias, -/
theorem read4 : iblk m c 4 t = V m c main_v1 := by
  funext y
  show V m c main_v1 ((win0_4.rect t).emb y) = _
  refine congrArg _ (funext fun a => Fin.ext ((win0_4.rect_emb_val t y a).trans ?_))
  match a with
  | ⟨0, _⟩ => exact (congrArg (· + (y 0).val) (starts t).2.2.2.2.1.1).trans (Nat.zero_add _)
  | ⟨1, _⟩ => exact (congrArg (· + (y 1).val) (starts t).2.2.2.2.1.2).trans (Nat.zero_add _)

/-- the second layer's weights, -/
theorem read5 : iblk m c 5 t = m ((c : Thread nD τ).loc main_arg4) := by
  rw [← V_main_arg4 m c]
  funext y
  show V m c main_arg4 ((win0_5.rect t).emb y) = _
  refine congrArg _ (funext fun a => Fin.ext ((win0_5.rect_emb_val t y a).trans ?_))
  match a with
  | ⟨0, _⟩ => exact (congrArg (· + (y 0).val) (starts t).2.2.2.2.2.1.1).trans (Nat.zero_add _)
  | ⟨1, _⟩ => exact (congrArg (· + (y 1).val) (starts t).2.2.2.2.2.1.2).trans (Nat.zero_add _)

/-- and the third layer's. -/
theorem read6 : iblk m c 6 t = m ((c : Thread nD τ).loc main_arg5) := by
  rw [← V_main_arg5 m c]
  funext y
  show V m c main_arg5 ((win0_6.rect t).emb y) = _
  refine congrArg _ (funext fun a => Fin.ext ((win0_6.rect_emb_val t y a).trans ?_))
  match a with
  | ⟨0, _⟩ => exact (congrArg (· + (y 0).val) (starts t).2.2.2.2.2.2.1.1).trans (Nat.zero_add _)
  | ⟨1, _⟩ => exact (congrArg (· + (y 1).val) (starts t).2.2.2.2.2.2.1.2).trans (Nat.zero_add _)

/-! ## The result array -/

/-- The result as a function of the arrays device `c` is launched with. -/
abbrev resultOf : FVec Ideal S20000x32 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A hidden feature computed from the first block is that of the point in the first half; -/
theorem hiddenB_first (r : Fin 800) (q : Fin 4) (ch : Fin 32) :
    hiddenB (iblk m c 0 t) (iblk m c 3 t) (iblk m c 4 t) r q ch
      = hidden (fun n k => m ((c : Thread nD τ).loc main_arg0) (ix2 n k)) (fun ch k => m ((c : Thread nD τ).loc main_arg2) (ix2 ch k))
          (fun ch => m ((c : Thread nD τ).loc main_arg3) (ix1 ch)) ⟨4 * (800 * t.val + r.val) + q.val, by have := point_lt t; omega⟩ ch := by
  unfold hiddenB hidden
  rw [read3, read4, bias_apply]
  refine congrArg (fun s => max (s + _) 0) (Finset.sum_congr rfl fun k _ => congrArg (· * _) ?_)
  rw [read0]
  refine Eq.trans ?_ (points_apply m c ⟨800 * t.val + r.val, by have := point_lt t; omega⟩ q ⟨1 + k.val, by omega⟩)
  exact congrArg (fun j => V m c main_v0 (ix2 _ j)) (Fin.ext (Nat.add_assoc _ _ _))

/-- from the second block, that of the point in the second half. -/
theorem hiddenB_second (r : Fin 800) (q : Fin 4) (ch : Fin 32) :
    hiddenB (iblk m c 1 t) (iblk m c 3 t) (iblk m c 4 t) r q ch
      = hidden (fun n k => m ((c : Thread nD τ).loc main_arg0) (ix2 n k)) (fun ch k => m ((c : Thread nD τ).loc main_arg2) (ix2 ch k))
          (fun ch => m ((c : Thread nD τ).loc main_arg3) (ix1 ch)) ⟨80000 + (4 * (800 * t.val + r.val) + q.val), by have := point_lt t; omega⟩ ch := by
  unfold hiddenB hidden
  rw [read3, read4, bias_apply]
  refine congrArg (fun s => max (s + _) 0) (Finset.sum_congr rfl fun k _ => congrArg (· * _) ?_)
  have e : (⟨80000 + (4 * (800 * t.val + r.val) + q.val), by have := point_lt t; omega⟩ : Fin 160000)
      = ⟨4 * (20000 + 800 * t.val + r.val) + q.val, by have := point_lt t; omega⟩ := Fin.ext (by dsimp only; omega)
  rw [read1, e]
  refine Eq.trans ?_ (points_apply m c ⟨20000 + 800 * t.val + r.val, by have := point_lt t; omega⟩ q ⟨1 + k.val, by omega⟩)
  exact congrArg (fun j => V m c main_v0 (ix2 _ j)) (Fin.ext (Nat.add_assoc _ _ _))

/-- So row `r` of the block's height bins is that of pillar `800 t + r`. -/
theorem rowB_eq (r : Fin 800) (k : Fin 256) :
    rowB (iblk m c 0 t) (iblk m c 1 t) (iblk m c 2 t) (iblk m c 3 t) (iblk m c 4 t) r k
      = bins (fun n k => m ((c : Thread nD τ).loc main_arg0) (ix2 n k)) (fun p ch => m ((c : Thread nD τ).loc main_arg1) (ix2 p ch))
          (fun ch k => m ((c : Thread nD τ).loc main_arg2) (ix2 ch k)) (fun ch => m ((c : Thread nD τ).loc main_arg3) (ix1 ch))
          ⟨800 * t.val + r.val, by have := point_lt t; omega⟩ k := by
  unfold rowB bins voxelB voxel
  rw [hiddenB_first, hiddenB_second, read2]
  congr 4
  exact Fin.ext (by dsimp only; omega)

/-- Row `r` of the block that grid point `t` stores is row `800 t + r` of the result. -/
theorem block_eq (r : Fin 800) (o : Fin 32) :
    out0_7 (iblk m c 0 t) (iblk m c 1 t) (iblk m c 2 t) (iblk m c 3 t) (iblk m c 4 t) (iblk m c 5 t) (iblk m c 6 t) (ix2 r o)
      = resultOf m c (ix2 (⟨800 * t.val + r.val, by have := point_lt t; omega⟩ : Fin 20000) o) := by
  rw [block_apply, funext (rowB_eq m c t r), read5, read6]
  rfl

/-- What grid point `t` writes back is its block of the result. -/
theorem flushed_eq : (dats m 0 c).flushed 7 t = ((cfg0.win 7).blk t).view.read (Elt Ideal) (resultOf m c) := by
  rw [Value.flushed7]
  funext y
  have ey : y = ix2 (y 0) (y 1) := funext fun a => by match a with | ⟨0, _⟩ => rfl | ⟨1, _⟩ => rfl
  have hy : (win0_7.rect t).emb y
      = ix2 (⟨800 * t.val + (y 0).val, by have := point_lt t; have : (y 0).val < 800 := (y 0).isLt; omega⟩ : Fin 20000) (y 1) := by
    refine funext fun a => Fin.ext ((win0_7.rect_emb_val t y a).trans ?_)
    match a with
    | ⟨0, _⟩ => exact congrArg (· + (y 0).val) (starts t).2.2.2.2.2.2.2.1.1
    | ⟨1, _⟩ => exact (congrArg (· + (y 1).val) (starts t).2.2.2.2.2.2.2.1.2).trans (Nat.zero_add _)
  exact (congrArg _ ey).trans ((block_eq m c t (y 0) (y 1)).trans (congrArg (resultOf m c) hy.symm))

/-- An index of the result array is in grid point `t`'s block when its row is among `800 t` to `800 t + 799`. -/
theorem mem_block (i : S20000x32.Idx) (h : (i 0).val / 800 = t.val) : i ∈ ((cfg0.win 7).blk t).view.set := by
  show i ∈ ((View.whole main_v2).slice (win0_7.rect t)).set
  rw [View.set_slice_whole, Rect.mem_set_unit]
  obtain ⟨-, -, -, -, -, -, -, ⟨e0, e1⟩, x0, x1⟩ := starts t
  have h1 : (i 1).val < 32 := (i 1).isLt
  intro a
  match a with
  | ⟨0, _⟩ =>
    show win0_7.index t 0 * win0_7.size 0 ≤ (i 0).val ∧ (i 0).val < win0_7.index t 0 * win0_7.size 0 + win0_7.xsize (grid0.coords t) 0
    rw [e0, x0]; omega
  | ⟨1, _⟩ =>
    show win0_7.index t 1 * win0_7.size 1 ≤ (i 1).val ∧ (i 1).val < win0_7.index t 1 * win0_7.size 1 + win0_7.xsize (grid0.coords t) 1
    rw [e1, x1]; omega

/-- The blocks fill the array, so after the last grid point it holds the result. -/
theorem array_eq : (dats m 0 c).arrAt 7 cfg0.N = resultOf m c :=
  (dats m 0 c).arrAt_eq_of_cover 7 (resultOf m c) (fun t _ => flushed_eq m c t) fun i =>
    have h0 : (i 0).val < 20000 := (i 0).isLt
    ⟨⟨(i 0).val / 800, lt_of_lt_of_eq (by omega : (i 0).val / 800 < 25) N_0.symm⟩, flush0_7 _, mem_block _ i rfl⟩

end Cert.Voxel

end
-- ==== Proof.RefScatter.lean ====
/-
  Where the reference's three scatters land. A count or a row of features lands at the voxel its index word names, a
  voxel's features land in the pillar row and the height bin its two index words name. On the fixed layout voxel
  `v = 4 p + z` is named by exactly two places of the sorted order, `8 p + z` and `8 p + 4 + z` (`places`), so a sum
  scattered over the places has two terms there (`scatterAdd_two`).
-/
module

public import proofs.«01_k».proof.Proof.Pre
public import proofs.«01_k».proof.Proof.Gen.ReferenceIdeal.Read
public import Idealize.ShloMosaic.Lib.Routing.OpsPair

@[expose] public section

noncomputable section

namespace Cert.Voxel

open Idealize.ShloMosaic Cert.ReferenceIdeal
open scoped BigOperators

/-- An index of a vector is its coordinate, -/
theorem eq_ix1 {n : Nat} (j : (⟨1, ![n]⟩ : Shape).Idx) : j = ix1 (j 0) :=
  funext fun a => by match a with | ⟨0, _⟩ => rfl

/-- and of a matrix, its two coordinates. -/
theorem eq_ix2 {n k : Nat} (j : (⟨2, ![n, k]⟩ : Shape).Idx) : j = ix2 (j 0) (j 1) :=
  funext fun a => by match a with | ⟨0, _⟩ => rfl | ⟨1, _⟩ => rfl

/-! ## Where an update lands -/

/-- Count `n` lands at voxel `v` exactly when its index word is `v`. -/
theorem lands_count (idx : IVec S160000x1 32) (n : Fin 160000) (v : Fin 80000) :
    scatter_S80000_S160000x1_S160000_n_0_0_1.resultIdx? (ix1 n) idx = some (ix1 v) ↔ (idx (ix2 n (0 : Fin 1))).toInt = v.val := by
  rw [Routing.resultIdx?_eq_some]
  have hs : scatter_S80000_S160000x1_S160000_n_0_0_1.start (ix1 n) idx 0 = (idx (ix2 n (0 : Fin 1))).toInt := by
    unfold ScatterDims.start
    rw [dif_pos (by decide)]
    exact congrArg (fun i => (idx i).toInt) (funext fun b => by match b with | ⟨0, _⟩ => rfl | ⟨1, _⟩ => rfl)
  have hw : scatter_S80000_S160000x1_S160000_n_0_0_1.window (ix1 n) 0 = 0 := rfl
  constructor
  · intro h
    have := h 0
    rw [hs, hw] at this
    exact (Int.add_zero _).symm.trans this
  · intro h a
    match a with
    | ⟨0, _⟩ => exact (congrArg₂ (fun s w => s + ((w : Nat) : Int)) hs hw).trans ((Int.add_zero _).trans h)

/-- Entry `(n, ch')` of the rows lands at `(v, ch)` exactly when row `n`'s index word is `v` and `ch'` is `ch`. -/
theorem lands_row (idx : IVec S160000x1 32) (n : Fin 160000) (ch' : Fin 32) (v : Fin 80000) (ch : Fin 32) :
    scatter_S80000x32_S160000x1_S160000x32_1_0_0_1.resultIdx? (ix2 n ch') idx = some (ix2 v ch)
      ↔ (idx (ix2 n (0 : Fin 1))).toInt = v.val ∧ ch' = ch := by
  rw [Routing.resultIdx?_eq_some]
  have hs0 : scatter_S80000x32_S160000x1_S160000x32_1_0_0_1.start (ix2 n ch') idx 0 = (idx (ix2 n (0 : Fin 1))).toInt := by
    unfold ScatterDims.start
    rw [dif_pos (by decide)]
    exact congrArg (fun i => (idx i).toInt) (funext fun b => by match b with | ⟨0, _⟩ => rfl | ⟨1, _⟩ => rfl)
  have hs1 : scatter_S80000x32_S160000x1_S160000x32_1_0_0_1.start (ix2 n ch') idx 1 = 0 := rfl
  have hw0 : scatter_S80000x32_S160000x1_S160000x32_1_0_0_1.window (ix2 n ch') 0 = 0 := rfl
  have hw1 : scatter_S80000x32_S160000x1_S160000x32_1_0_0_1.window (ix2 n ch') 1 = ch'.val := rfl
  constructor
  · intro h
    have h0 : _ + _ = (v.val : Int) := h 0
    have h1 : _ + _ = (ch.val : Int) := h 1
    rw [hs0, hw0] at h0
    rw [hs1, hw1] at h1
    exact ⟨by omega, Fin.ext (by omega)⟩
  · rintro ⟨h, rfl⟩ a
    match a with
    | ⟨0, _⟩ => exact (congrArg₂ (fun s w => s + ((w : Nat) : Int)) hs0 hw0).trans ((Int.add_zero _).trans h)
    | ⟨1, _⟩ => exact (congrArg₂ (fun s w => s + ((w : Nat) : Int)) hs1 hw1).trans (Int.zero_add _)

/-- Entry `(v, ch')` of the voxels lands at `(p, b, ch)` exactly when voxel `v`'s two index words are `p` and `b` and `ch'` is `ch`. -/
theorem lands_bin (idx : IVec S80000x2 32) (v : Fin 80000) (ch' : Fin 32) (p : Fin 20000) (b : Fin 8) (ch : Fin 32) :
    scatter_S20000x8x32_S80000x2_S80000x32_1_01_01_1.resultIdx? (ix2 v ch') idx = some (ix3 p b ch)
      ↔ (idx (ix2 v (0 : Fin 2))).toInt = p.val ∧ (idx (ix2 v (1 : Fin 2))).toInt = b.val ∧ ch' = ch := by
  rw [Routing.resultIdx?_eq_some]
  have hs0 : scatter_S20000x8x32_S80000x2_S80000x32_1_01_01_1.start (ix2 v ch') idx 0 = (idx (ix2 v (0 : Fin 2))).toInt := by
    unfold ScatterDims.start
    rw [dif_pos (by decide)]
    exact congrArg (fun i => (idx i).toInt) (funext fun b => by match b with | ⟨0, _⟩ => rfl | ⟨1, _⟩ => rfl)
  have hs1 : scatter_S20000x8x32_S80000x2_S80000x32_1_01_01_1.start (ix2 v ch') idx 1 = (idx (ix2 v (1 : Fin 2))).toInt := by
    unfold ScatterDims.start
    rw [dif_pos (by decide)]
    exact congrArg (fun i => (idx i).toInt) (funext fun b => by match b with | ⟨0, _⟩ => rfl | ⟨1, _⟩ => rfl)
  have hs2 : scatter_S20000x8x32_S80000x2_S80000x32_1_01_01_1.start (ix2 v ch') idx 2 = 0 := rfl
  have hw0 : scatter_S20000x8x32_S80000x2_S80000x32_1_01_01_1.window (ix2 v ch') 0 = 0 := rfl
  have hw1 : scatter_S20000x8x32_S80000x2_S80000x32_1_01_01_1.window (ix2 v ch') 1 = 0 := rfl
  have hw2 : scatter_S20000x8x32_S80000x2_S80000x32_1_01_01_1.window (ix2 v ch') 2 = ch'.val := rfl
  constructor
  · intro h
    have h0 : _ + _ = (p.val : Int) := h 0
    have h1 : _ + _ = (b.val : Int) := h 1
    have h2 : _ + _ = (ch.val : Int) := h 2
    rw [hs0, hw0] at h0
    rw [hs1, hw1] at h1
    rw [hs2, hw2] at h2
    exact ⟨by omega, by omega, Fin.ext (by omega)⟩
  · rintro ⟨h0, h1, rfl⟩ a
    match a with
    | ⟨0, _⟩ => exact (congrArg₂ (fun s w => s + ((w : Nat) : Int)) hs0 hw0).trans ((Int.add_zero _).trans h0)
    | ⟨1, _⟩ => exact (congrArg₂ (fun s w => s + ((w : Nat) : Int)) hs1 hw1).trans ((Int.add_zero _).trans h1)
    | ⟨2, _⟩ => exact (congrArg₂ (fun s w => s + ((w : Nat) : Int)) hs2 hw2).trans (Int.zero_add _)

/-! ## A sum with two terms -/

/-- An added scatter read at an entry where exactly the two updates `a` and `b` land. -/
theorem scatterAdd_two {s si u : Shape} (d : ScatterDims s si u) (x : FVec Ideal s .f32) (idx : IVec si 32) (upd : FVec Ideal u .f32)
    (i : s.Idx) (a b : u.Idx) (hab : a ≠ b) (h : ∀ j, d.resultIdx? j idx = some i ↔ j = a ∨ j = b) :
    Host.scatterAdd d x idx upd i = (x i : EReal) + ((upd a : EReal) + (upd b : EReal)) := by
  show (x i : EReal) + ∑ j ∈ Finset.univ.filter (fun j => d.resultIdx? j idx = some i), (upd j : EReal) = _
  have e : Finset.univ.filter (fun j => d.resultIdx? j idx = some i) = {a, b} := by
    ext j
    simp [h]
  rw [e, Finset.sum_pair hab]

/-- The first place of voxel `v` in the sorted order, -/
def place0 (v : Fin 80000) : Fin 160000 := ⟨8 * (v.val / 4) + v.val % 4, by omega⟩

/-- and the second. -/
def place1 (v : Fin 80000) : Fin 160000 := ⟨8 * (v.val / 4) + 4 + v.val % 4, by omega⟩

theorem place_ne (v : Fin 80000) : place0 v ≠ place1 v := fun h => by
  have : 8 * (v.val / 4) + v.val % 4 = 8 * (v.val / 4) + 4 + v.val % 4 := congrArg Fin.val h
  omega

/-- Place `n` is of voxel `v` exactly when it is one of the two. -/
theorem places (n : Fin 160000) (v : Fin 80000) : ((4 * (n.val / 8) + n.val % 4 : Nat) : Int) = v.val ↔ n = place0 v ∨ n = place1 v := by
  rw [Fin.ext_iff, Fin.ext_iff]
  show _ ↔ n.val = 8 * (v.val / 4) + v.val % 4 ∨ n.val = 8 * (v.val / 4) + 4 + v.val % 4
  omega

end Cert.Voxel

end
-- ==== Proof.RefVoxels.lean ====
/-
  What the reference computes up to a voxel's features, on the fixed layout of the index arrays. Place `n` of the sorted
  order gathers point `source n` and the sparse features of pillar `n / 8`; the two places of voxel `v` gather the points
  `v` and `80000 + v` and the same pillar, so the mean over the voxel is `voxel v` (`voxels_apply`).
-/
module

public import proofs.«01_k».proof.Proof.RefScatter
public import proofs.«01_k».proof.Proof.Spec
public import Idealize.ShloMosaic.Lib.Pointwise.IndexBridge
public import Idealize.ShloMosaic.Lib.Routing.Ops

@[expose] public section

noncomputable section

namespace Cert.Voxel

open Idealize.ShloMosaic Cert.ReferenceIdeal Cert.ReferenceIdeal.Read
open scoped BigOperators

/-- The wrap of negative index words leaves the word of a small number alone. -/
theorem wrap_word (e : Nat) (he : e < 2 ^ 31) (a : BitVec 32) :
    Scalar.select (IntOp.cmpi .slt (BitVec.ofNat 32 e) 0#32) a (BitVec.ofNat 32 e) = BitVec.ofNat 32 e :=
  Routing.wrap_of_lt _ _ (by rw [BitVec.toNat_ofNat]; omega)

/-- The point that place `n` of the sorted order holds. -/
def source (n : Fin 160000) : Fin 160000 := ⟨80000 * (n.val / 4 % 2) + 4 * (n.val / 8) + n.val % 4, by omega⟩

variable (x0 : FVec Ideal S160000x9 .f32) (x1 : FVec Ideal S20000x32 .f32) (x2 : FVec Ideal S32x8 .f32) (x3 : FVec Ideal S32 .f32)
  {x6 x7 x8 : IVec S160000 32} {x9 x10 : IVec S80000 32} (H : IndexArrays x6 x7 x8 x9 x10)

include H

/-- Place `n`'s row of the gathered points is row `source n` of the points. -/
theorem gather_points (n : Fin 160000) (k : Fin 9) : val_main_v6 (F := Ideal) x0 x6 (ix2 n k) = x0 (ix2 (source n) k) := by
  have hw : val_main_v5 (F := Ideal) x6 (ix2 n (0 : Fin 1)) = BitVec.ofNat 32 (source n).val := by
    rw [val_main_v5_apply, show idx_main_v5 (ix2 n (0 : Fin 1)) = ix1 n from eq_ix1 _, val_main_v4_apply, val_main_v1_apply, val_main_v0_apply, val_main_c_apply]
    exact (congrArg (fun w => Scalar.select (IntOp.cmpi .slt w 0#32) _ w) (H.sort n)).trans (wrap_word _ (by omega) _)
  rw [ix2_eq_valueIdx] at hw ⊢
  rw [ix2_eq_valueIdx]
  exact Routing.gather_row gather_S160000x9_S160000x1_S160000x9_1_0_n_n_0_1_19 rfl rfl rfl rfl rfl x0 _ n k (source n) hw (by norm_num)

/-- Place `n`'s row of the gathered sparse features is pillar `n / 8`'s. -/
theorem gather_sparse (n : Fin 160000) (ch : Fin 32) :
    val_main_v21 (F := Ideal) x1 x7 (ix2 n ch) = x1 (ix2 (⟨n.val / 8, by omega⟩ : Fin 20000) ch) := by
  have hw : val_main_v20 (F := Ideal) x7 (ix2 n (0 : Fin 1)) = BitVec.ofNat 32 (n.val / 8) := by
    rw [val_main_v20_apply, show idx_main_v20 (ix2 n (0 : Fin 1)) = ix1 n from eq_ix1 _, val_main_v19_apply, val_main_v16_apply, val_main_v15_apply, val_main_c_1_apply]
    exact (congrArg (fun w => Scalar.select (IntOp.cmpi .slt w 0#32) _ w) (H.pillar n)).trans (wrap_word _ (by omega) _)
  rw [ix2_eq_valueIdx] at hw ⊢
  rw [ix2_eq_valueIdx]
  exact Routing.gather_row gather_S20000x32_S160000x1_S160000x32_1_0_n_n_0_1_132 rfl rfl rfl rfl rfl x1 _ n ch ⟨n.val / 8, by omega⟩ hw (by norm_num)

/-- The features summed over a voxel: at place `n`, its pillar's sparse feature plus its point's hidden feature. -/
theorem summand_apply (n : Fin 160000) (ch : Fin 32) :
    val_main_v22 (F := Ideal) x0 x1 x2 x3 x6 x7 (ix2 n ch)
      = (x1 (ix2 (⟨n.val / 8, by omega⟩ : Fin 20000) ch) : EReal)
        + hidden (fun n k => x0 (ix2 n k)) (fun ch k => x2 (ix2 ch k)) (fun ch => x3 (ix1 ch)) (source n) ch := by
  rw [val_main_v22_apply, gather_sparse x1 H, val_main_v14_apply, val_main_v13_apply, val_main_cst_apply, val_main_v12_apply,
    val_main_v9_apply, val_main_v11_apply, val_main_v10_apply]
  have hb : idx_main_v10 (idx_main_v11 (ix2 n ch)) = ix1 ch := eq_ix1 _
  have hk (k : Fin 8) : val_main_v7 (F := Ideal) x0 x6 (lidx_main_v9 (ix2 n ch) k) = x0 (ix2 (source n) (⟨1 + k.val, by omega⟩ : Fin 9)) := by
    rw [val_main_v7_apply, eq_ix2 (idx_main_v7 (lidx_main_v9 (ix2 n ch) k))]
    exact gather_points x0 H n ⟨1 + k.val, by omega⟩
  have hW (k : Fin 8) : val_main_v8 (F := Ideal) x2 (ridx_main_v9 (ix2 n ch) k) = x2 (ix2 ch k) := by
    rw [val_main_v8_apply, eq_ix2 (idx_main_v8 (ridx_main_v9 (ix2 n ch) k))]
    rfl
  simp only [hk, hW, hb]
  show _ + max (_ + _) (Ideal.ofBits .f32 0x00000000#32) = _ + hidden _ _ _ _ _
  rw [Ideal.ofBits_zero_f32]
  rfl

/-- Place `n` counts at voxel `v` exactly when it is one of the voxel's two places, -/
theorem count_lands (v : Fin 80000) (j : S160000.Idx) :
    scatter_S80000_S160000x1_S160000_n_0_0_1.resultIdx? j (val_main_v25 (F := Ideal) x8) = some (ix1 v)
      ↔ j = ix1 (place0 v) ∨ j = ix1 (place1 v) := by
  obtain ⟨n, rfl⟩ : ∃ n : Fin 160000, j = ix1 n := ⟨j 0, eq_ix1 j⟩
  have hw : val_main_v25 (F := Ideal) x8 (ix2 n (0 : Fin 1)) = BitVec.ofNat 32 (4 * (n.val / 8) + n.val % 4) := by
    rw [val_main_v25_apply, show idx_main_v25 (ix2 n (0 : Fin 1)) = ix1 n from eq_ix1 _]
    exact H.vox n
  have inj (a b : Fin 160000) : ix1 a = ix1 b ↔ a = b := ⟨fun h => congrFun h 0, congrArg ix1⟩
  rw [lands_count, hw, StableHlo.Predicate.toInt_ofNat_small _ (by omega), places, inj, inj]

/-- and its feature `ch'` is added to feature `ch` of the voxel when moreover `ch'` is `ch`. -/
theorem sum_lands (v : Fin 80000) (ch : Fin 32) (j : S160000x32.Idx) :
    scatter_S80000x32_S160000x1_S160000x32_1_0_0_1.resultIdx? j (val_main_v28 (F := Ideal) x8) = some (ix2 v ch)
      ↔ j = ix2 (place0 v) ch ∨ j = ix2 (place1 v) ch := by
  obtain ⟨n, ch', rfl⟩ : ∃ (n : Fin 160000) (ch' : Fin 32), j = ix2 n ch' := ⟨j 0, j 1, eq_ix2 j⟩
  have hw : val_main_v28 (F := Ideal) x8 (ix2 n (0 : Fin 1)) = BitVec.ofNat 32 (4 * (n.val / 8) + n.val % 4) := by
    rw [val_main_v28_apply, show idx_main_v28 (ix2 n (0 : Fin 1)) = ix1 n from eq_ix1 _]
    exact H.vox n
  have inj (a b : Fin 160000) : ix2 a ch' = ix2 b ch ↔ a = b ∧ ch' = ch :=
    ⟨fun h => ⟨congrFun h 0, congrFun h 1⟩, fun h => by rw [h.1, h.2]⟩
  rw [lands_row, hw, StableHlo.Predicate.toInt_ofNat_small _ (by omega), places, inj, inj, or_and_right]

/-- Every voxel counts two points. -/
theorem counts_apply (v : Fin 80000) : val_main_v26 (F := Ideal) x8 (ix1 v) = (((2 : ℝ) : EReal) : Ideal .f32) := by
  unfold val_main_v26
  rw [scatterAdd_two _ _ _ _ _ (ix1 (place0 v)) (ix1 (place1 v)) (fun h => place_ne v (congrFun h 0)) (count_lands H v),
    val_main_v24_apply, val_main_cst_4_apply, val_main_v23_apply, val_main_v23_apply, val_main_cst_3_apply]
  show Ideal.ofBits .f32 0x00000000#32 + (Ideal.ofBits .f32 0x3F800000#32 + Ideal.ofBits .f32 0x3F800000#32) = _
  rw [Ideal.ofBits_zero_f32, Ideal.ofBits_one_f32, zero_add, one_add_one_eq]

/-- So the divisor, the count but at least one, is two. -/
theorem divisor_apply (v : Fin 80000) (ch : Fin 32) : val_main_v33 (F := Ideal) x8 (ix2 v ch) = (((2 : ℝ) : EReal) : Ideal .f32) := by
  rw [val_main_v33_apply, val_main_v32_apply, show idx_main_v32 (idx_main_v33 (ix2 v ch)) = ix1 v from eq_ix1 _, val_main_v31_apply]
  show max (val_main_v26 (F := Ideal) x8 (ix1 v) : EReal) (Ideal.ofBits .f32 0x3F800000#32) = _
  rw [counts_apply H, Ideal.ofBits_one_f32]
  exact max_eq_left (EReal.coe_one ▸ EReal.coe_le_coe_iff.2 (by norm_num : (1 : ℝ) ≤ 2))

/-- The mean over voxel `v`: the voxel's features. -/
theorem voxels_apply (v : Fin 80000) (ch : Fin 32) :
    val_main_v34 (F := Ideal) x0 x1 x2 x3 x6 x7 x8 (ix2 v ch)
      = voxel (fun n k => x0 (ix2 n k)) (fun p ch => x1 (ix2 p ch)) (fun ch k => x2 (ix2 ch k)) (fun ch => x3 (ix1 ch)) v ch := by
  rw [val_main_v34_apply, divisor_apply H]
  unfold val_main_v29
  rw [scatterAdd_two _ _ _ _ _ (ix2 (place0 v) ch) (ix2 (place1 v) ch) (fun h => place_ne v (congrFun h 0)) (sum_lands H v ch),
    val_main_v27_apply, val_main_cst_5_apply, summand_apply x0 x1 x2 x3 H, summand_apply x0 x1 x2 x3 H]
  have p0 : (⟨(place0 v).val / 8, by have := (place0 v).isLt; omega⟩ : Fin 20000) = ⟨v.val / 4, by omega⟩ :=
    Fin.ext (by show (8 * (v.val / 4) + v.val % 4) / 8 = v.val / 4; omega)
  have p1 : (⟨(place1 v).val / 8, by have := (place1 v).isLt; omega⟩ : Fin 20000) = ⟨v.val / 4, by omega⟩ :=
    Fin.ext (by show (8 * (v.val / 4) + 4 + v.val % 4) / 8 = v.val / 4; omega)
  have s0 : source (place0 v) = ⟨v.val, by omega⟩ := Fin.ext (by
    show 80000 * ((8 * (v.val / 4) + v.val % 4) / 4 % 2) + 4 * ((8 * (v.val / 4) + v.val % 4) / 8) + (8 * (v.val / 4) + v.val % 4) % 4 = v.val
    omega)
  have s1 : source (place1 v) = ⟨80000 + v.val, by omega⟩ := Fin.ext (by
    show 80000 * ((8 * (v.val / 4) + 4 + v.val % 4) / 4 % 2) + 4 * ((8 * (v.val / 4) + 4 + v.val % 4) / 8) + (8 * (v.val / 4) + 4 + v.val % 4) % 4
      = 80000 + v.val
    omega)
  rw [p0, p1, s0, s1]
  show Ideal.div (Ideal.ofBits .f32 0x00000000#32 + _) _ = _
  rw [Ideal.ofBits_zero_f32, zero_add]
  exact mean_two _ _ _

end Cert.Voxel

end
-- ==== Proof.RefValue.lean ====
/-
  What the reference computes, on the fixed layout of the index arrays: voxel `4 p + z` is written to bin `2 z` of pillar
  `p`'s row and nothing else to the row (`row_apply`), and the two last layers take the row to the outputs
  (`reference_apply`).
-/
module

public import proofs.«01_k».proof.Proof.RefVoxels
public import Idealize.ShloMosaic.Lib.Routing.OpsSet

@[expose] public section

noncomputable section

namespace Cert.Voxel

open Idealize.ShloMosaic Cert.ReferenceIdeal Cert.ReferenceIdeal.Read
open scoped BigOperators

variable (x0 : FVec Ideal S160000x9 .f32) (x1 : FVec Ideal S20000x32 .f32) (x2 : FVec Ideal S32x8 .f32) (x3 : FVec Ideal S32 .f32)
  (x4 : FVec Ideal S128x256 .f32) (x5 : FVec Ideal S32x128 .f32)
  {x6 x7 x8 : IVec S160000 32} {x9 x10 : IVec S80000 32} (H : IndexArrays x6 x7 x8 x9 x10)

include H

/-- Voxel `v`'s first index word is its pillar, -/
theorem word_row (v : Fin 80000) : val_main_v48 (F := Ideal) x9 x10 (ix2 v (0 : Fin 2)) = BitVec.ofNat 32 (v.val / 4) := by
  unfold val_main_v48
  rw [concatenate_pair_apply_left (s₁ := S80000x1) (s₂ := S80000x1) 1 _ _ _ (ix2 v (0 : Fin 2)) rfl (ix2 v (0 : Fin 1))
    (fun b => by match b with | ⟨0, _⟩ => rfl | ⟨1, _⟩ => rfl), val_main_v46_apply,
    show idx_main_v46 (ix2 v (0 : Fin 1)) = ix1 v from eq_ix1 _, val_main_v40_apply, val_main_v37_apply, val_main_v36_apply, val_main_c_8_apply]
  exact (congrArg (fun w => Scalar.select (IntOp.cmpi .slt w 0#32) _ w) (H.row v)).trans (wrap_word _ (by omega) _)

/-- and its second the bin it fills. -/
theorem word_bin (v : Fin 80000) : val_main_v48 (F := Ideal) x9 x10 (ix2 v (1 : Fin 2)) = BitVec.ofNat 32 (2 * (v.val % 4)) := by
  unfold val_main_v48
  rw [concatenate_pair_apply_right (s₁ := S80000x1) (s₂ := S80000x1) 1 _ _ _ (ix2 v (1 : Fin 2)) rfl rfl (ix2 v (0 : Fin 1))
    (fun b hb => by match b with | ⟨0, _⟩ => rfl | ⟨1, _⟩ => exact absurd rfl hb) rfl, val_main_v47_apply,
    show idx_main_v47 (ix2 v (0 : Fin 1)) = ix1 v from eq_ix1 _, val_main_v45_apply, val_main_v42_apply, val_main_v41_apply, val_main_c_10_apply]
  exact (congrArg (fun w => Scalar.select (IntOp.cmpi .slt w 0#32) _ w) (H.bin v)).trans (wrap_word _ (by omega) _)

/-- Feature `ch'` of voxel `v` is written to channel `ch` of bin `b` of pillar `p` exactly when they are that voxel's. -/
theorem bin_lands (p : Fin 20000) (b : Fin 8) (ch : Fin 32) (v : Fin 80000) (ch' : Fin 32) :
    scatter_S20000x8x32_S80000x2_S80000x32_1_01_01_1.resultIdx? (ix2 v ch') (val_main_v48 (F := Ideal) x9 x10) = some (ix3 p b ch)
      ↔ v.val / 4 = p.val ∧ 2 * (v.val % 4) = b.val ∧ ch' = ch := by
  rw [lands_bin, word_row H, word_bin H, StableHlo.Predicate.toInt_ofNat_small _ (by omega), StableHlo.Predicate.toInt_ofNat_small _ (by omega),
    Nat.cast_inj, Nat.cast_inj]

/-- A bin of the pillar's row: voxel `4 p + z` in bin `2 z`, zero in the odd bins. -/
theorem bins_apply (p : Fin 20000) (b : Fin 8) (ch : Fin 32) :
    val_main_v49 (F := Ideal) x0 x1 x2 x3 x6 x7 x8 x9 x10 (ix3 p b ch)
      = if b.val % 2 = 0 then voxel (fun n k => x0 (ix2 n k)) (fun p ch => x1 (ix2 p ch)) (fun ch k => x2 (ix2 ch k)) (fun ch => x3 (ix1 ch))
          ⟨4 * p.val + b.val / 2, by omega⟩ ch else (0 : EReal) := by
  unfold val_main_v49
  split
  · next hb =>
    refine Routing.scatter_set_hit _ _ _ _ _ _ (fun k hk => ?_) (ix2 (⟨4 * p.val + b.val / 2, by omega⟩ : Fin 80000) ch)
      ((bin_lands H p b ch _ ch).2 ⟨by show (4 * p.val + b.val / 2) / 4 = p.val; omega,
        by show 2 * ((4 * p.val + b.val / 2) % 4) = b.val; omega, rfl⟩)
    obtain ⟨v, ch', rfl⟩ : ∃ (v : Fin 80000) (ch' : Fin 32), k = ix2 v ch' := ⟨k 0, k 1, eq_ix2 k⟩
    obtain ⟨hp, hz, rfl⟩ := (bin_lands H p b ch v ch').1 hk
    rw [voxels_apply x0 x1 x2 x3 H]
    exact congrArg (fun v => voxel _ _ _ _ v ch') (Fin.ext (by show v.val = 4 * p.val + b.val / 2; omega))
  · next hb =>
    refine (Routing.scatter_set_miss _ _ _ _ _ fun k hk => ?_).trans ?_
    · obtain ⟨v, ch', rfl⟩ : ∃ (v : Fin 80000) (ch' : Fin 32), k = ix2 v ch' := ⟨k 0, k 1, eq_ix2 k⟩
      obtain ⟨-, hz, -⟩ := (bin_lands H p b ch v ch').1 hk
      omega
    · rw [val_main_v35_apply, val_main_cst_7_apply]
      exact Ideal.ofBits_zero_f32

/-- The pillar's bins in one row. -/
theorem row_apply (p : Fin 20000) (k : Fin 256) :
    val_main_v50 (F := Ideal) x0 x1 x2 x3 x6 x7 x8 x9 x10 (ix2 p k)
      = bins (fun n k => x0 (ix2 n k)) (fun p ch => x1 (ix2 p ch)) (fun ch k => x2 (ix2 ch k)) (fun ch => x3 (ix1 ch)) p k := by
  have e : idx_main_v50 (ix2 p k) = ix3 p (⟨k.val / 32, by omega⟩ : Fin 8) (⟨k.val % 32, by omega⟩ : Fin 32) :=
    funext fun a => by
      match a with
      | ⟨0, _⟩ => exact Fin.ext (by show (p.val * 256 + k.val) / 256 = p.val; omega)
      | ⟨1, _⟩ => exact Fin.ext (by show (p.val * 256 + k.val) / 32 % 8 = k.val / 32; omega)
      | ⟨2, _⟩ => exact Fin.ext (by show (p.val * 256 + k.val) % 32 = k.val % 32; omega)
  rw [val_main_v50_apply, e, bins_apply x0 x1 x2 x3 H]
  unfold bins
  refine congrArg (fun s => if k.val / 32 % 2 = 0 then s else (0 : EReal)) (congrArg (fun v => voxel _ _ _ _ v _) (Fin.ext ?_))
  show 4 * p.val + k.val / 32 / 2 = 4 * p.val + k.val / 64
  omega

/-- The reference's result. -/
theorem reference_apply (p : Fin 20000) (o : Fin 32) :
    val_main_v58 (F := Ideal) x0 x1 x2 x3 x4 x5 x6 x7 x8 x9 x10 (ix2 p o)
      = out (fun n k => x0 (ix2 n k)) (fun p ch => x1 (ix2 p ch)) (fun ch k => x2 (ix2 ch k)) (fun ch => x3 (ix1 ch))
          (fun j k => x4 (ix2 j k)) (fun o j => x5 (ix2 o j)) p o := by
  rw [val_main_v58_apply, val_main_v57_apply, val_main_cst_13_apply, val_main_v56_apply]
  have hW2 (j : Fin 128) : val_main_v55 (F := Ideal) x5 (ridx_main_v56 (ix2 p o) j) = x5 (ix2 o j) := by
    rw [val_main_v55_apply]
    exact congrArg x5 (eq_ix2 _)
  have hmid (j : Fin 128) : val_main_v54 (F := Ideal) x0 x1 x2 x3 x4 x6 x7 x8 x9 x10 (lidx_main_v56 (ix2 p o) j)
      = max (∑ k : Fin 256, bins (fun n k => x0 (ix2 n k)) (fun p ch => x1 (ix2 p ch)) (fun ch k => x2 (ix2 ch k)) (fun ch => x3 (ix1 ch)) p k
          * (x4 (ix2 j k) : EReal)) 0 := by
    rw [show lidx_main_v56 (ix2 p o) j = ix2 p j from eq_ix2 _, val_main_v54_apply, val_main_v53_apply, val_main_cst_12_apply, val_main_v52_apply]
    have hW1 (k : Fin 256) : val_main_v51 (F := Ideal) x4 (ridx_main_v52 (ix2 p j) k) = x4 (ix2 j k) := by
      rw [val_main_v51_apply]
      exact congrArg x4 (eq_ix2 _)
    have hr (k : Fin 256) : val_main_v50 (F := Ideal) x0 x1 x2 x3 x6 x7 x8 x9 x10 (lidx_main_v52 (ix2 p j) k)
        = bins (fun n k => x0 (ix2 n k)) (fun p ch => x1 (ix2 p ch)) (fun ch k => x2 (ix2 ch k)) (fun ch => x3 (ix1 ch)) p k := by
      rw [show lidx_main_v52 (ix2 p j) k = ix2 p k from eq_ix2 _]
      exact row_apply x0 x1 x2 x3 H p k
    simp only [hW1, hr]
    show max _ (Ideal.ofBits .f32 0x00000000#32) = _
    rw [Ideal.ofBits_zero_f32]
  simp only [hW2, hmid]
  show max _ (Ideal.ofBits .f32 0x00000000#32) = _
  rw [Ideal.ofBits_zero_f32]
  rfl

end Cert.Voxel

end
-- ==== Proof.Equation.lean ====
/-
  The equation: on the fixed layout of the index arrays the reference's result is the array the kernel's launch leaves
  (`reference_eq`), so both programs end with the one array `resultOf` of the arguments (`reference_run`).
-/
module

public import proofs.«01_k».proof.Proof.KernelValue
public import proofs.«01_k».proof.Proof.RefValue
public import proofs.«01_k».proof.Proof.Gen.ReferenceIdeal.Run

@[expose] public section

noncomputable section

namespace Cert.Voxel

open Idealize.ShloMosaic Idealize.SL.Sem

/-- The reference's result array is `result` of its first six arguments, the last five being the fixed layout. -/
theorem reference_eq (x0 : FVec Ideal Cert.ReferenceIdeal.S160000x9 .f32) (x1 : FVec Ideal Cert.ReferenceIdeal.S20000x32 .f32)
    (x2 : FVec Ideal Cert.ReferenceIdeal.S32x8 .f32) (x3 : FVec Ideal Cert.ReferenceIdeal.S32 .f32)
    (x4 : FVec Ideal Cert.ReferenceIdeal.S128x256 .f32) (x5 : FVec Ideal Cert.ReferenceIdeal.S32x128 .f32)
    (x6 x7 x8 : IVec Cert.ReferenceIdeal.S160000 32) (x9 x10 : IVec Cert.ReferenceIdeal.S80000 32)
    (H : IndexArrays x6 x7 x8 x9 x10) :
    Cert.ReferenceIdeal.Read.val_main_v58 (F := Ideal) x0 x1 x2 x3 x4 x5 x6 x7 x8 x9 x10 = result x0 x1 x2 x3 x4 x5 := by
  funext i
  exact (congrArg _ (eq_ix2 i)).trans (reference_apply x0 x1 x2 x3 x4 x5 H (i 0) (i 1))

open Cert.ReferenceIdeal in
/-- Every run of the reference, its index arrays being the fixed layout, ends with `result` of its arguments in its
    result array and leaves the arguments as they were. -/
theorem reference_run (m : (ℓ : Loc nD τ sig) → Buf (Elt Ideal) ℓ) (ρ : Dev nD → PrngReg)
    (H : ∀ c : Dev nD, IndexArrays (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))) :
    θ_run defs (onTc (τ := τ) (main (F := Ideal))) ⟨m, fun _ => 0, ρ⟩ fun r => ∀ c : Dev nD,
      r.2.mem ((c.tc : Thread nD τ).loc main_v58)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans ((Read.val_main_v58_eq _ _ _ _ _ _ _ _ _ _ _).trans
      (reference_eq _ _ _ _ _ _ _ _ _ _ _ (H c))), (h c).2⟩)
    (Cert.ReferenceIdeal.Value.run m ρ)

end Cert.Voxel

end
-- ==== Proof.lean ====
/-
  The proof of `Cert.Claim` (proofs.«01_k».proof.Defs): the three programs leave their arguments and semaphores as they
  were, the kernel and its idealization are the same program, and over the extended reals the kernel and the reference
  end with the same array. The array is `Cert.Voxel.resultOf` (Proof/KernelValue.lean) of the kernel's arguments; that the
  kernel leaves it is `Cert.Voxel.array_eq`, that the reference does is `Cert.Voxel.reference_run` (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_index_arrays
public import proofs.«01_k».proof.Proof.Pre
public import proofs.«01_k».proof.Proof.Equation
public import Idealize.ShloMosaic.Adequacy
public import Idealize.ShloMosaic.Init

@[expose] public section

noncomputable section

namespace Cert.Proof

open Idealize.ShloMosaic Idealize.SL.Sem

/-- The reference, whatever its arguments hold, leaves them as they were; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference, started on the same arguments with the index arrays of the fixed layout, end with the
    same result array. -/
theorem same_result : Cert.algebraic_KernelIdeal_ReferenceIdeal_pre_index_arrays := by
  intro m g m' g' hpre hagree
  refine ⟨fun c => Cert.Voxel.resultOf m c, ?_, ?_⟩
  · exact (θ_run _ _ _).mono (fun r h c => ⟨(h c).1.trans (Cert.Voxel.array_eq m c), (h c).2⟩)
      (Cert.KernelIdeal.Value.run_blocks m g)
  · have run := Cert.Voxel.reference_run m' g' fun c => by
      obtain ⟨-, -, -, -, -, -, e6, e7, e8, e9, e10⟩ := hagree c
      obtain ⟨p1, p2, p3, p4, p5⟩ := hpre c
      rw [e6, e7, e8, e9, e10]
      exact Cert.Voxel.indexArrays_of_pre _ _ _ _ _ _ _ _ _ _ _ p1 p2 p3 p4 p5
    refine (θ_run _ _ _).mono (fun r h c => ⟨(h c).1.trans ?_, (h c).2⟩) run
    obtain ⟨e0, e1, e2, e3, e4, e5, -⟩ := hagree c
    rw [e0, e1, e2, e3, e4, e5]

/-- The certificate's claims, all of them. -/
theorem claim : Cert.Claim :=
  ⟨Cert.Kernel.Gen.facts, Cert.KernelIdeal.Gen.facts, Cert.ReferenceIdeal.Gen.facts, Cert.Pre_index_arrays.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, same_result⟩

end Cert.Proof

end
